-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16384x1 : Shape := ⟨2, ![16384, 1]⟩
abbrev S4x128x128 : Shape := ⟨3, ![4, 128, 128]⟩
abbrev S128x1 : Shape := ⟨2, ![128, 1]⟩
abbrev S4x128 : Shape := ⟨2, ![4, 128]⟩
abbrev S1 : Shape := ⟨1, ![1]⟩
abbrev S1x128 : Shape := ⟨2, ![1, 128]⟩
abbrev S2048x128 : Shape := ⟨2, ![2048, 128]⟩
abbrev S2048x1 : Shape := ⟨2, ![2048, 1]⟩
abbrev S1x128x128 : Shape := ⟨3, ![1, 128, 128]⟩
abbrev S128x128 : Shape := ⟨2, ![128, 128]⟩
abbrev S128 : Shape := ⟨1, ![128]⟩
abbrev S2048 : Shape := ⟨1, ![2048]⟩

abbrev nBuf : Space → Nat
  | .hbm => 20
  | .vmem => 25
  | .smem => 1
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x1, .f32⟩
  | .hbm, ⟨5, _⟩ => ⟨S16384x1, .f32⟩
  | .hbm, ⟨6, _⟩ => ⟨S4x128x128, .f32⟩
  | .hbm, ⟨7, _⟩ => ⟨S128x1, .f32⟩
  | .hbm, ⟨8, _⟩ => ⟨S4x128x128, .f32⟩
  | .hbm, ⟨9, _⟩ => ⟨S128x1, .f32⟩
  | .hbm, ⟨10, _⟩ => ⟨S4x128x128, .f32⟩
  | .hbm, ⟨11, _⟩ => ⟨S128x1, .f32⟩
  | .hbm, ⟨12, _⟩ => ⟨S4x128, .f32⟩
  | .hbm, ⟨13, _⟩ => ⟨S1, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S16384x128, .f32⟩
  | .hbm, ⟨18, _⟩ => ⟨S16384x128, .f32⟩
  | .hbm, ⟨19, _⟩ => ⟨S16384x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x1, .f32⟩
  | .local _ .vmem, ⟨24, _⟩ => ⟨S2048x1, .f32⟩
  | .local _ .smem, ⟨0, _⟩ => ⟨S1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x128 : Shape := ⟨2, ![16384, 128]⟩
abbrev S16384x1 : Shape := ⟨2, ![16384, 1]⟩
abbrev S4x128x128 : Shape := ⟨3, ![4, 128, 128]⟩
abbrev S128x1 : Shape := ⟨2, ![128, 1]⟩
abbrev S4x128 : Shape := ⟨2, ![4, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S16384x1, .f32⟩
  | 5 => ⟨S16384x1, .f32⟩
  | 6 => ⟨S4x128x128, .f32⟩
  | 7 => ⟨S128x1, .f32⟩
  | 8 => ⟨S4x128x128, .f32⟩
  | 9 => ⟨S128x1, .f32⟩
  | 10 => ⟨S4x128x128, .f32⟩
  | 11 => ⟨S128x1, .f32⟩
  | 12 => ⟨S4x128, .f32⟩
  | 13 => ⟨S1, .f32⟩
  | 14 => ⟨S16384x128, .f32⟩
  | 15 => ⟨S16384x128, .f32⟩
  | 16 => ⟨S1x128x128, .f32⟩
  | 17 => ⟨S128x128, .f32⟩
  | 18 => ⟨S16384x128, .f32⟩
  | 19 => ⟨S1x128x128, .f32⟩
  | 20 => ⟨S128x128, .f32⟩
  | 21 => ⟨S16384x128, .f32⟩
  | 22 => ⟨S16384x128, .f32⟩
  | 23 => ⟨S16384x128, .f32⟩
  | 24 => ⟨S16384x128, .f32⟩
  | 25 => ⟨S1x128x128, .f32⟩
  | 26 => ⟨S128x128, .f32⟩
  | 27 => ⟨S16384x128, .f32⟩
  | 28 => ⟨S16384x128, .f32⟩
  | 29 => ⟨S1x128, .f32⟩
  | 30 => ⟨S128, .f32⟩
  | 31 => ⟨S1x128, .f32⟩
  | 32 => ⟨S16384x128, .f32⟩
  | 33 => ⟨S16384x128, .f32⟩
  | 34 => ⟨S16384x128, .f32⟩
  | 35 => ⟨S16384x128, .f32⟩
  | 36 => ⟨S1x128x128, .f32⟩
  | 37 => ⟨S128x128, .f32⟩
  | 38 => ⟨S16384x128, .f32⟩
  | 39 => ⟨S1x128x128, .f32⟩
  | 40 => ⟨S128x128, .f32⟩
  | 41 => ⟨S16384x128, .f32⟩
  | 42 => ⟨S16384x128, .f32⟩
  | 43 => ⟨S16384x128, .f32⟩
  | 44 => ⟨S16384x128, .f32⟩
  | 45 => ⟨S1x128x128, .f32⟩
  | 46 => ⟨S128x128, .f32⟩
  | 47 => ⟨S16384x128, .f32⟩
  | 48 => ⟨S16384x128, .f32⟩
  | 49 => ⟨S1x128, .f32⟩
  | 50 => ⟨S128, .f32⟩
  | 51 => ⟨S1x128, .f32⟩
  | 52 => ⟨S16384x128, .f32⟩
  | 53 => ⟨S16384x128, .f32⟩
  | 54 => ⟨S16384x128, .f32⟩
  | 55 => ⟨S16384x128, .f32⟩
  | 56 => ⟨S1x128x128, .f32⟩
  | 57 => ⟨S128x128, .f32⟩
  | 58 => ⟨S16384x128, .f32⟩
  | 59 => ⟨S1x128x128, .f32⟩
  | 60 => ⟨S128x128, .f32⟩
  | 61 => ⟨S16384x128, .f32⟩
  | 62 => ⟨S16384x128, .f32⟩
  | 63 => ⟨S16384x128, .f32⟩
  | 64 => ⟨S16384x128, .f32⟩
  | 65 => ⟨S1x128x128, .f32⟩
  | 66 => ⟨S128x128, .f32⟩
  | 67 => ⟨S16384x128, .f32⟩
  | 68 => ⟨S16384x128, .f32⟩
  | 69 => ⟨S1x128, .f32⟩
  | 70 => ⟨S128, .f32⟩
  | 71 => ⟨S1x128, .f32⟩
  | 72 => ⟨S16384x128, .f32⟩
  | 73 => ⟨S16384x128, .f32⟩
  | 74 => ⟨S16384x128, .f32⟩
  | 75 => ⟨S16384x128, .f32⟩
  | 76 => ⟨S1x128x128, .f32⟩
  | 77 => ⟨S128x128, .f32⟩
  | 78 => ⟨S16384x128, .f32⟩
  | 79 => ⟨S1x128x128, .f32⟩
  | 80 => ⟨S128x128, .f32⟩
  | 81 => ⟨S16384x128, .f32⟩
  | 82 => ⟨S16384x128, .f32⟩
  | 83 => ⟨S16384x128, .f32⟩
  | 84 => ⟨S16384x128, .f32⟩
  | 85 => ⟨S1x128x128, .f32⟩
  | 86 => ⟨S128x128, .f32⟩
  | 87 => ⟨S16384x128, .f32⟩
  | 88 => ⟨S16384x128, .f32⟩
  | 89 => ⟨S1x128, .f32⟩
  | 90 => ⟨S128, .f32⟩
  | 91 => ⟨S1x128, .f32⟩
  | 92 => ⟨S16384x128, .f32⟩
  | 93 => ⟨S16384x128, .f32⟩
  | 94 => ⟨S16384x128, .f32⟩
  | 95 => ⟨S16384x128, .f32⟩
  | 96 => ⟨S_, .f32⟩
  | 97 => ⟨S16384x128, .f32⟩
  | 98 => ⟨S16384x128, .f32⟩
  | 99 => ⟨S_, .f32⟩
  | 100 => ⟨S16384x128, .f32⟩
  | 101 => ⟨S16384x128, .f32⟩
  | 102 => ⟨S16384x128, .f32⟩
  | 103 => ⟨S16384x128, .f32⟩
  | 104 => ⟨S16384x128, .f32⟩
  | 105 => ⟨S_, .f32⟩
  | 106 => ⟨S16384x128, .f32⟩
  | 107 => ⟨S16384x128, .f32⟩
  | 108 => ⟨S_, .f32⟩
  | 109 => ⟨S16384x128, .f32⟩
  | 110 => ⟨S16384x128, .f32⟩
  | 111 => ⟨S16384x128, .f32⟩
  | 112 => ⟨S16384x128, .f32⟩
  | 113 => ⟨S_, .f32⟩
  | 114 => ⟨S16384x128, .f32⟩
  | 115 => ⟨S16384x128, .f32⟩
  | 116 => ⟨S_, .f32⟩
  | 117 => ⟨S16384x128, .f32⟩
  | 118 => ⟨S16384x128, .f32⟩
  | 119 => ⟨S16384x128, .f32⟩
  | 120 => ⟨S16384x128, .f32⟩
  | 121 => ⟨S16384x128, .f32⟩
  | 122 => ⟨S16384x128, .f32⟩
  | 123 => ⟨S_, .f32⟩
  | 124 => ⟨S16384x1, .f32⟩
  | 125 => ⟨S16384x1, .i1⟩
  | 126 => ⟨S_, .f32⟩
  | 127 => ⟨S16384x1, .f32⟩
  | _ => ⟨S16384x128, .f32⟩

abbrev hbmTy0_1 (i : Nat) : BufTy := match i % 128 with
  | 0 => ⟨S16384x1, .i1⟩
  | 1 => ⟨S_, .f32⟩
  | 2 => ⟨S16384x1, .f32⟩
  | 3 => ⟨S16384x1, .i1⟩
  | 4 => ⟨S16384x1, .i1⟩
  | 5 => ⟨S16384x128, .i1⟩
  | 6 => ⟨S16384x128, .f32⟩
  | 7 => ⟨S16384x128, .i1⟩
  | 8 => ⟨S16384x128, .f32⟩
  | 9 => ⟨S16384x128, .f32⟩
  | 10 => ⟨S16384x128, .f32⟩
  | 11 => ⟨S16384x128, .f32⟩
  | 12 => ⟨S16384x128, .f32⟩
  | 13 => ⟨S_, .f32⟩
  | 14 => ⟨S16384x1, .f32⟩
  | 15 => ⟨S16384x1, .i1⟩
  | 16 => ⟨S_, .f32⟩
  | 17 => ⟨S16384x1, .f32⟩
  | 18 => ⟨S16384x1, .i1⟩
  | 19 => ⟨S_, .f32⟩
  | 20 => ⟨S16384x1, .f32⟩
  | 21 => ⟨S16384x1, .i1⟩
  | 22 => ⟨S16384x1, .i1⟩
  | 23 => ⟨S16384x128, .i1⟩
  | 24 => ⟨S16384x128, .f32⟩
  | 25 => ⟨S16384x128, .i1⟩
  | 26 => ⟨S16384x128, .f32⟩
  | 27 => ⟨S16384x128, .f32⟩
  | 28 => ⟨S16384x128, .f32⟩
  | 29 => ⟨S16384x1, .f32⟩
  | 30 => ⟨S16384x1, .f32⟩
  | 31 => ⟨S16384x1, .f32⟩
  | 32 => ⟨S16384x128, .f32⟩
  | 33 => ⟨S16384x128, .f32⟩
  | 34 => ⟨S16384x1, .f32⟩
  | 35 => ⟨S16384x1, .f32⟩
  | 36 => ⟨S1x1, .f32⟩
  | 37 => ⟨S16384x1, .f32⟩
  | 38 => ⟨S16384x1, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S_, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .i1⟩
  | 67 => ⟨S_, .f32⟩
  | 68 => ⟨S16384x1, .f32⟩
  | 69 => ⟨S_, .f32⟩
  | 70 => ⟨S16384x1, .f32⟩
  | 71 => ⟨S16384x1, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst : Ref sig .tc := ⟨.hbm, 96, rfl⟩
abbrev main_v82 : Ref sig .tc := ⟨.hbm, 97, rfl⟩
abbrev main_v83 : Ref sig .tc := ⟨.hbm, 98, rfl⟩
abbrev main_cst_0 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_1 : Ref sig .tc := ⟨.hbm, 105, rfl⟩
abbrev main_v89 : Ref sig .tc := ⟨.hbm, 106, rfl⟩
abbrev main_v90 : Ref sig .tc := ⟨.hbm, 107, rfl⟩
abbrev main_cst_2 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_3 : Ref sig .tc := ⟨.hbm, 113, rfl⟩
abbrev main_v95 : Ref sig .tc := ⟨.hbm, 114, rfl⟩
abbrev main_v96 : Ref sig .tc := ⟨.hbm, 115, rfl⟩
abbrev main_cst_4 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_5 : Ref sig .tc := ⟨.hbm, 123, rfl⟩
abbrev main_v103 : Ref sig .tc := ⟨.hbm, 124, rfl⟩
abbrev main_v104 : Ref sig .tc := ⟨.hbm, 125, rfl⟩
abbrev main_cst_6 : Ref sig .tc := ⟨.hbm, 126, rfl⟩
abbrev main_v105 : Ref sig .tc := ⟨.hbm, 127, rfl⟩
abbrev main_v106 : Ref sig .tc := ⟨.hbm, 128, rfl⟩
abbrev main_cst_7 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_call0_v0 : Ref sig .tc := ⟨.hbm, 133, rfl⟩
abbrev main_v110 : Ref sig .tc := ⟨.hbm, 134, rfl⟩
abbrev main_call1_v0 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_8 : Ref sig .tc := ⟨.hbm, 141, rfl⟩
abbrev main_v116 : Ref sig .tc := ⟨.hbm, 142, rfl⟩
abbrev main_v117 : Ref sig .tc := ⟨.hbm, 143, rfl⟩
abbrev main_cst_9 : Ref sig .tc := ⟨.hbm, 144, rfl⟩
abbrev main_v118 : Ref sig .tc := ⟨.hbm, 145, rfl⟩
abbrev main_v119 : Ref sig .tc := ⟨.hbm, 146, rfl⟩
abbrev main_cst_10 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_call2_v0 : Ref sig .tc := ⟨.hbm, 151, rfl⟩
abbrev main_v123 : Ref sig .tc := ⟨.hbm, 152, rfl⟩
abbrev main_call3_v0 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_11 : Ref sig .tc := ⟨.hbm, 169, rfl⟩
abbrev main_v139 : Ref sig .tc := ⟨.hbm, 170, rfl⟩
abbrev main_v140 : Ref sig .tc := ⟨.hbm, 171, rfl⟩
abbrev main_cst_12 : Ref sig .tc := ⟨.hbm, 172, rfl⟩
abbrev main_v141 : Ref sig .tc := ⟨.hbm, 173, rfl⟩
abbrev main_v142 : Ref sig .tc := ⟨.hbm, 174, rfl⟩
abbrev main_cst_13 : Ref sig .tc := ⟨.hbm, 175, rfl⟩
abbrev main_v143 : Ref sig .tc := ⟨.hbm, 176, rfl⟩
abbrev main_v144 : Ref sig .tc := ⟨.hbm, 177, rfl⟩
abbrev main_cst_14 : Ref sig .tc := ⟨.hbm, 178, rfl⟩
abbrev main_v145 : Ref sig .tc := ⟨.hbm, 179, rfl⟩
abbrev main_v146 : Ref sig .tc := ⟨.hbm, 180, rfl⟩
abbrev main_cst_15 : Ref sig .tc := ⟨.hbm, 181, rfl⟩
abbrev main_v147 : Ref sig .tc := ⟨.hbm, 182, rfl⟩
abbrev main_v148 : Ref sig .tc := ⟨.hbm, 183, rfl⟩
abbrev main_cst_16 : Ref sig .tc := ⟨.hbm, 184, rfl⟩
abbrev main_cst_17 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_v149 : Ref sig .tc := ⟨.hbm, 191, rfl⟩
abbrev main_cst_18 : Ref sig .tc := ⟨.hbm, 192, rfl⟩
abbrev main_v150 : Ref sig .tc := ⟨.hbm, 193, rfl⟩
abbrev main_v151 : Ref sig .tc := ⟨.hbm, 194, rfl⟩
abbrev main_cst_19 : Ref sig .tc := ⟨.hbm, 195, rfl⟩
abbrev main_v152 : Ref sig .tc := ⟨.hbm, 196, rfl⟩
abbrev main_cst_20 : Ref sig .tc := ⟨.hbm, 197, rfl⟩
abbrev main_v153 : Ref sig .tc := ⟨.hbm, 198, rfl⟩
abbrev main_v154 : Ref sig .tc := ⟨.hbm, 199, rfl⟩

abbrev nD : Nat := 1
abbrev τ : Topo := Topo.v7x

variable {F : FTy → Type} [FloatOps F]
-- ==== Proof.Cell.lean ====
/- The gated recurrent cell as plain mathematics on extended reals, for one row of the batch: the four gates'
   pre-activations, the new cell state, the new hidden state and the new boundary bit. The kernel's blocks and the
   reference's arrays are both shown to hold these values. -/
module

public import Idealize.ShloMosaic.Lib.Pointwise

@[expose] public section

noncomputable section

namespace Cert.Cell

open Idealize.ShloMosaic
open scoped BigOperators

/-- One batch row's inputs: hidden state `h`, cell state `c`, the inputs `hb` from below and `ht` from above, the row's
    own boundary value `z` and the boundary value `zb` of the layer below. -/
structure Row where
  h : Fin 128 → EReal
  c : Fin 128 → EReal
  hb : Fin 128 → EReal
  ht : Fin 128 → EReal
  z : EReal
  zb : EReal

/-- The weights every row shares: per gate the three matrices and the bias, and the boundary unit's three vectors and
    bias. -/
structure Weights where
  W : Fin 4 → Fin 128 → Fin 128 → EReal
  R : Fin 4 → Fin 128 → Fin 128 → EReal
  U : Fin 4 → Fin 128 → Fin 128 → EReal
  b : Fin 4 → Fin 128 → EReal
  wz : Fin 128 → EReal
  rz : Fin 128 → EReal
  uz : Fin 128 → EReal
  bz : EReal

/-- Row `p` of six arrays of `n` rows. -/
def Row.of {n : Nat} (h c hb ht : (⟨2, ![n, 128]⟩ : Shape).Idx → EReal) (z zb : (⟨2, ![n, 1]⟩ : Shape).Idx → EReal)
    (p : Fin n) : Row where
  h k := h (ix2 p k)
  c k := c (ix2 p k)
  hb k := hb (ix2 p k)
  ht k := ht (ix2 p k)
  z := z (ix2 p 0)
  zb := zb (ix2 p 0)

/-- The weights as read from their arrays, the boundary unit's three vectors given entry by entry. -/
def Weights.of (W R U : (⟨3, ![4, 128, 128]⟩ : Shape).Idx → EReal) (b : (⟨2, ![4, 128]⟩ : Shape).Idx → EReal)
    (wz rz uz : Fin 128 → EReal) (bz : (⟨1, ![1]⟩ : Shape).Idx → EReal) : Weights where
  W g k j := W (ix3 g k j)
  R g k j := R (ix3 g k j)
  U g k j := U (ix3 g k j)
  b g j := b (ix2 g j)
  wz := wz
  rz := rz
  uz := uz
  bz := bz (ix1 0)

variable (w : Weights) (x : Row)

/-- Gate `g`'s pre-activation at unit `j`. -/
def pre (g : Fin 4) (j : Fin 128) : EReal :=
  (∑ k, x.hb k * x.zb * w.W g k j) + (∑ k, x.h k * w.R g k j) + (∑ k, x.ht k * x.z * w.U g k j) + w.b g j

/-- The cell state after a flush: input gate times candidate. -/
def cFlush (j : Fin 128) : EReal := Ideal.logistic (pre w x 0 j) * Ideal.tanh (pre w x 1 j)

/-- The cell state after an update: the old state through the forget gate, plus input gate times candidate. -/
def cUpdate (j : Fin 128) : EReal := x.c j * Ideal.logistic (pre w x 3 j) + cFlush w x j

/-- The new cell state: flush when `z = 1`, update when `z = 0` and `zb = 1`, else a copy. -/
def cNew (j : Fin 128) : EReal :=
  if x.z = 1 then cFlush w x j else if x.z = 0 ∧ x.zb = 1 then cUpdate w x j else x.c j

/-- The new hidden state, by the same three cases; the first two pass the new cell state through the output gate. -/
def hNew (j : Fin 128) : EReal :=
  if x.z = 1 then Ideal.tanh (cFlush w x j) * Ideal.logistic (pre w x 2 j)
  else if x.z = 0 ∧ x.zb = 1 then Ideal.tanh (cUpdate w x j) * Ideal.logistic (pre w x 2 j) else x.h j

/-- The boundary unit's pre-activation. -/
def zPre : EReal :=
  (∑ k, x.hb k * x.zb * w.wz k) + (∑ k, hNew w x k * w.rz k) + (∑ k, x.ht k * x.z * w.uz k) + w.bz

/-- The new boundary bit: the hard-sigmoid-like value `(σ(zPre) + 1) / 2`, clipped to `[0, 1]`, compared with one half. -/
def zNew : EReal :=
  if ((1 / 2 : ℝ) : EReal) < min 1 (max 0 ((Ideal.logistic (zPre w x) + 1) * ((1 / 2 : ℝ) : EReal))) then 1 else 0

end Cert.Cell

end
-- ==== Proof.Block.lean ====
/- What one grid point of the kernel computes from its blocks of 2048 rows: the three output blocks as terms over the
   input blocks, and each of them, row by row, the cell's new hidden state, cell state and boundary bit. -/
module

public import proofs.«01_k».proof.Proof.Cell
public import proofs.«01_k».proof.Proof.Gen.KernelIdeal.Skeleton

@[expose] public section

noncomputable section

namespace Cert.Block

open Cert.KernelIdeal Cert.KernelIdeal.Gen Idealize.ShloMosaic
open Cert.Cell (Row Weights)

/-! ## The scalar readings the blocks need -/

/-- The pattern of one half denotes one half. -/
theorem ofBits_half : Ideal.ofBits .f32 0x3F000000#32 = ((1 / 2 : ℝ) : EReal) := by
  simp [Ideal.ofBits, Ideal.ieee, -EReal.coe_mul]; norm_num

/-- Choosing by the negated mask `¬(p ∨ (q ∧ r))` is choosing by the two cases `p` and `q ∧ r` in turn. -/
theorem select_copy (p q r : Prop) [Decidable p] [Decidable q] [Decidable r] (a b : EReal) :
    Scalar.select (IntOp.xori (IntOp.ori (BitVec.ofBool (decide p))
        (IntOp.andi (BitVec.ofBool (decide q)) (BitVec.ofBool (decide r)))) 1#1) a b
      = if p then b else if q ∧ r then b else a := by
  by_cases hp : p <;> by_cases hq : q <;> by_cases hr : r <;> simp [hp, hq, hr, Scalar.select, IntOp.xori, IntOp.ori, IntOp.andi]

/-! ## The gates -/

variable (x0 x1 x2 x3 : Vec Ideal S2048x128 .f32) (x4 x5 : Vec Ideal S2048x1 .f32) (x6 x7 x8 : Vec Ideal S4x128x128 .f32)
  (x9 : Vec Ideal S4x128 .f32) (x10 x11 x12 : Vec Ideal S1x128 .f32) (x13 : Vec Ideal S1 .f32)

/-- The weights read from the point's blocks. -/
abbrev weights : Weights :=
  Weights.of x6 x7 x8 x9 (fun k => x10 (ix2 0 k)) (fun k => x11 (ix2 0 k)) (fun k => x12 (ix2 0 k)) x13

/-- The input gate's block. -/
def gateI : FVec Ideal S2048x128 .f32 :=
  (k0_pay3 x4 x5 x0 x2 x3 (View.ld x6 (Rect.unit (s := S4x128x128) ![0, 0, 0] S1x128x128.size inb_S4x128x128_S1x128x128_0_0_0))
      (View.ld x7 (Rect.unit (s := S4x128x128) ![0, 0, 0] S1x128x128.size inb_S4x128x128_S1x128x128_0_0_0))
      (View.ld x8 (Rect.unit (s := S4x128x128) ![0, 0, 0] S1x128x128.size inb_S4x128x128_S1x128x128_0_0_0))
      (View.ld x9 (Rect.unit (s := S4x128) ![0, 0] S1x128.size inb_S4x128_S1x128_0_0)))

/-- The candidate's block. -/
def gateG : FVec Ideal S2048x128 .f32 :=
  (k0_pay5 x0 (k0_pay2 x4 x3)
      (k0_pay4 x5 x2 (View.ld x6 (Rect.unit (s := S4x128x128) ![1, 0, 0] S1x128x128.size inb_S4x128x128_S1x128x128_1_0_0)))
      (View.ld x7 (Rect.unit (s := S4x128x128) ![1, 0, 0] S1x128x128.size inb_S4x128x128_S1x128x128_1_0_0))
      (View.ld x8 (Rect.unit (s := S4x128x128) ![1, 0, 0] S1x128x128.size inb_S4x128x128_S1x128x128_1_0_0))
      (View.ld x9 (Rect.unit (s := S4x128) ![1, 0] S1x128.size inb_S4x128_S1x128_1_0)))

/-- The output gate's block. -/
def gateO : FVec Ideal S2048x128 .f32 :=
  (k0_pay6 x0 (k0_pay1 x5 x2) (k0_pay2 x4 x3)
      (View.ld x6 (Rect.unit (s := S4x128x128) ![2, 0, 0] S1x128x128.size inb_S4x128x128_S1x128x128_2_0_0))
      (View.ld x7 (Rect.unit (s := S4x128x128) ![2, 0, 0] S1x128x128.size inb_S4x128x128_S1x128x128_2_0_0))
      (View.ld x8 (Rect.unit (s := S4x128x128) ![2, 0, 0] S1x128x128.size inb_S4x128x128_S1x128x128_2_0_0))
      (View.ld x9 (Rect.unit (s := S4x128) ![2, 0] S1x128.size inb_S4x128_S1x128_2_0)))

/-- The block of new hidden states. -/
def hBlock : Vec Ideal S2048x128 .f32 :=
  k0_pay11 x4 x5 x0 (k0_pay2 x4 x3) (gateI x0 x2 x3 x4 x5 x6 x7 x8 x9) (gateG x0 x2 x3 x4 x5 x6 x7 x8 x9)
      (gateO x0 x2 x3 x4 x5 x6 x7 x8 x9) (k0_pay7 (k0_pay1 x5 x2) (View.ld x6 (Rect.unit (s := S4x128x128) ![3, 0, 0] S1x128x128.size inb_S4x128x128_S1x128x128_3_0_0)))
      (View.ld x7 (Rect.unit (s := S4x128x128) ![3, 0, 0] S1x128x128.size inb_S4x128x128_S1x128x128_3_0_0))
      (View.ld x8 (Rect.unit (s := S4x128x128) ![3, 0, 0] S1x128x128.size inb_S4x128x128_S1x128x128_3_0_0))
      (View.ld x9 (Rect.unit (s := S4x128) ![3, 0] S1x128.size inb_S4x128_S1x128_3_0)) x1

/-- The block of new cell states. -/
def cBlock : Vec Ideal S2048x128 .f32 :=
  k0_pay12 x4 x5 x0 (k0_pay2 x4 x3) (gateI x0 x2 x3 x4 x5 x6 x7 x8 x9) (gateG x0 x2 x3 x4 x5 x6 x7 x8 x9)
      (k0_pay7 (k0_pay1 x5 x2) (View.ld x6 (Rect.unit (s := S4x128x128) ![3, 0, 0] S1x128x128.size inb_S4x128x128_S1x128x128_3_0_0)))
      (View.ld x7 (Rect.unit (s := S4x128x128) ![3, 0, 0] S1x128x128.size inb_S4x128x128_S1x128x128_3_0_0))
      (View.ld x8 (Rect.unit (s := S4x128x128) ![3, 0, 0] S1x128x128.size inb_S4x128x128_S1x128x128_3_0_0))
      (View.ld x9 (Rect.unit (s := S4x128) ![3, 0] S1x128.size inb_S4x128_S1x128_3_0)) x1

/-- The block of new boundary bits. -/
def zBlock : Vec Ideal S2048x1 .f32 :=
  k0_pay14 (k0_pay2 x4 x3) (hBlock x0 x1 x2 x3 x4 x5 x6 x7 x8 x9) (k0_pay13 (k0_pay1 x5 x2) x10) x11 x12 (x13 (ix1 0))

variable (p : Fin 2048) (q : Fin 128)

/-- The input gate is the logistic of the first pre-activation. -/
theorem gateI_apply : gateI x0 x2 x3 x4 x5 x6 x7 x8 x9 (ix2 p q)
    = Ideal.logistic (Cell.pre (weights x6 x7 x8 x9 x10 x11 x12 x13) (Row.of x0 x1 x2 x3 x4 x5 p) 0 q) := by
  unfold gateI
  unfold_payloads
  pointwise [dot_S2048x128_S128x128_S2048x128_1_0_0_1_n_n]
  rfl

/-- The candidate is the hyperbolic tangent of the second. -/
theorem gateG_apply : gateG x0 x2 x3 x4 x5 x6 x7 x8 x9 (ix2 p q)
    = Ideal.tanh (Cell.pre (weights x6 x7 x8 x9 x10 x11 x12 x13) (Row.of x0 x1 x2 x3 x4 x5 p) 1 q) := by
  unfold gateG
  unfold_payloads
  pointwise [dot_S2048x128_S128x128_S2048x128_1_0_0_1_n_n]
  rfl

/-- The output gate is the logistic of the third. -/
theorem gateO_apply : gateO x0 x2 x3 x4 x5 x6 x7 x8 x9 (ix2 p q)
    = Ideal.logistic (Cell.pre (weights x6 x7 x8 x9 x10 x11 x12 x13) (Row.of x0 x1 x2 x3 x4 x5 p) 2 q) := by
  unfold gateO
  unfold_payloads
  pointwise [dot_S2048x128_S128x128_S2048x128_1_0_0_1_n_n]
  rfl

/-- Row `p`, unit `q` of the block of new cell states is the cell's new cell state of row `p`. -/
theorem cBlock_apply : cBlock x0 x1 x2 x3 x4 x5 x6 x7 x8 x9 (ix2 p q)
    = Cell.cNew (weights x6 x7 x8 x9 x10 x11 x12 x13) (Row.of x0 x1 x2 x3 x4 x5 p) q := by
  unfold cBlock
  unfold_payloads
  pointwise [dot_S2048x128_S128x128_S2048x128_1_0_0_1_n_n, select_copy,
    gateI_apply x0 x1 x2 x3 x4 x5 x6 x7 x8 x9 x10 x11 x12 x13 p q, gateG_apply x0 x1 x2 x3 x4 x5 x6 x7 x8 x9 x10 x11 x12 x13 p q]
  by_cases hz : x4 (ix2 p 0) = 1
  · simp only [if_pos hz]
    exact (if_pos (show (Row.of x0 x1 x2 x3 x4 x5 p).z = 1 from hz)).symm
  · simp only [if_neg hz]
    exact (if_neg (show ¬(Row.of x0 x1 x2 x3 x4 x5 p).z = 1 from hz)).symm

/-- Row `p`, unit `q` of the block of new hidden states is the cell's new hidden state of row `p`. -/
theorem hBlock_apply : hBlock x0 x1 x2 x3 x4 x5 x6 x7 x8 x9 (ix2 p q)
    = Cell.hNew (weights x6 x7 x8 x9 x10 x11 x12 x13) (Row.of x0 x1 x2 x3 x4 x5 p) q := by
  unfold hBlock
  unfold_payloads
  pointwise [dot_S2048x128_S128x128_S2048x128_1_0_0_1_n_n, select_copy,
    gateI_apply x0 x1 x2 x3 x4 x5 x6 x7 x8 x9 x10 x11 x12 x13 p q, gateG_apply x0 x1 x2 x3 x4 x5 x6 x7 x8 x9 x10 x11 x12 x13 p q,
    gateO_apply x0 x1 x2 x3 x4 x5 x6 x7 x8 x9 x10 x11 x12 x13 p q]
  by_cases hz : x4 (ix2 p 0) = 1
  · simp only [if_pos hz]
    exact (if_pos (show (Row.of x0 x1 x2 x3 x4 x5 p).z = 1 from hz)).symm
  · simp only [if_neg hz]
    exact (if_neg (show ¬(Row.of x0 x1 x2 x3 x4 x5 p).z = 1 from hz)).symm

/-- Row `p` of the block of new boundary bits is the cell's new boundary bit of row `p`. -/
theorem zBlock_apply : zBlock x0 x1 x2 x3 x4 x5 x6 x7 x8 x9 x10 x11 x12 x13 (ix2 p 0)
    = Cell.zNew (weights x6 x7 x8 x9 x10 x11 x12 x13) (Row.of x0 x1 x2 x3 x4 x5 p) := by
  unfold zBlock
  unfold_payloads
  pointwise [ofBits_half, hBlock_apply x0 x1 x2 x3 x4 x5 x6 x7 x8 x9 x10 x11 x12 x13 p]
  rfl

end Cert.Block

end
-- ==== Proof.Point.lean ====
/- What one grid point leaves in each output's buffer: the blocks of new hidden states, cell states and boundary bits over
   the point's input blocks. -/
module

public import proofs.«01_k».proof.Proof.Block
public import proofs.«01_k».proof.Proof.Gen.KernelIdeal.Value

@[expose] public section

noncomputable section

namespace Cert.Point

open Cert.KernelIdeal Cert.KernelIdeal.Gen Cert.KernelIdeal.Value Idealize.ShloMosaic Idealize.ShloMosaic.TcCoe
open Idealize.ShloMosaic.Tactic

/-- The zero offsets, written out and as a constant function. -/
theorem zero2 : (![0, 0] : Fin 2 → Nat) = fun _ => 0 := funext fun a => by fin_cases a <;> rfl

/-- The one word of the bias array, read as a scalar. -/
theorem word_eq (x : Vec Ideal S1 .f32) (h) (j) : View.ld x (Rect.unit (s := S1) ![0] ![1] h) j = x (ix1 0) :=
  congrArg x (funext fun a => by match a with | ⟨0, _⟩ => exact Subsingleton.elim (α := Fin 1) _ _)

/-- Each output's one store covers its buffer, so the buffer holds the stored block; each load of a whole buffer reads the
    point's input block. -/
theorem out_eq (c : Dev nD) (i : grid0.Coords)
    (a0 : Memref sig .tc .vmem S2048x128 .f32) (h0 : a0.IsWhole)
    (a1 : Memref sig .tc .vmem S2048x128 .f32) (h1 : a1.IsWhole)
    (a2 : Memref sig .tc .vmem S2048x128 .f32) (h2 : a2.IsWhole)
    (a3 : Memref sig .tc .vmem S2048x128 .f32) (h3 : a3.IsWhole)
    (a4 : Memref sig .tc .vmem S2048x1 .f32) (h4 : a4.IsWhole)
    (a5 : Memref sig .tc .vmem S2048x1 .f32) (h5 : a5.IsWhole)
    (a6 : Memref sig .tc .vmem S4x128x128 .f32) (h6 : a6.IsWhole)
    (a7 : Memref sig .tc .vmem S4x128x128 .f32) (h7 : a7.IsWhole)
    (a8 : Memref sig .tc .vmem S4x128x128 .f32) (h8 : a8.IsWhole)
    (a9 : Memref sig .tc .vmem S4x128 .f32) (h9 : a9.IsWhole)
    (a10 : Memref sig .tc .vmem S1x128 .f32) (h10 : a10.IsWhole)
    (a11 : Memref sig .tc .vmem S1x128 .f32) (h11 : a11.IsWhole)
    (a12 : Memref sig .tc .vmem S1x128 .f32) (h12 : a12.IsWhole)
    (a13 : Memref sig .tc .smem S1 .f32) (h13 : a13.IsWhole)
    (a14 : Memref sig .tc .vmem S2048x128 .f32) (h14 : a14.IsWhole)
    (a15 : Memref sig .tc .vmem S2048x128 .f32) (h15 : a15.IsWhole)
    (a16 : Memref sig .tc .vmem S2048x1 .f32) (h16 : a16.IsWhole)
    (x0 x1 x2 x3 : Vec Ideal S2048x128 .f32) (x4 x5 : Vec Ideal S2048x1 .f32) (x6 x7 x8 : Vec Ideal S4x128x128 .f32)
    (x9 : Vec Ideal S4x128 .f32) (x10 x11 x12 : Vec Ideal S1x128 .f32) (x13 : Vec Ideal S1 .f32) :
    out0_A_14 c i a0 h0 a1 h1 a2 h2 a3 h3 a4 h4 a5 h5 a6 h6 a7 h7 a8 h8 a9 h9 a10 h10 a11 h11 a12 h12 a13 h13 a14 h14 a15 h15 a16 h16
      x0 x1 x2 x3 x4 x5 x6 x7 x8 x9 x10 x11 x12 x13
      = Block.hBlock x0 x1 x2 x3 x4 x5 x6 x7 x8 x9 ∧
    out0_A_15 c i a0 h0 a1 h1 a2 h2 a3 h3 a4 h4 a5 h5 a6 h6 a7 h7 a8 h8 a9 h9 a10 h10 a11 h11 a12 h12 a13 h13 a14 h14 a15 h15 a16 h16
      x0 x1 x2 x3 x4 x5 x6 x7 x8 x9 x10 x11 x12 x13
      = Block.cBlock x0 x1 x2 x3 x4 x5 x6 x7 x8 x9 ∧
    out0_A_16 c i a0 h0 a1 h1 a2 h2 a3 h3 a4 h4 a5 h5 a6 h6 a7 h7 a8 h8 a9 h9 a10 h10 a11 h11 a12 h12 a13 h13 a14 h14 a15 h15 a16 h16
      x0 x1 x2 x3 x4 x5 x6 x7 x8 x9 x10 x11 x12 x13
      = Block.zBlock x0 x1 x2 x3 x4 x5 x6 x7 x8 x9 x10 x11 x12 x13 := by
  refine ⟨?_, ?_, ?_⟩ <;>
  · simp only [out0_A_14, out0_A_15, out0_A_16, View.read_writes_junk_eq_canon]
    unfold kernelRun0_A
    dsimp only
    sl_unfold_words
    rw [View.canon_unit_zero zero2]
    simp only [View.readAt_eq_ld, h0.read_unread, h1.read_unread, h2.read_unread, h3.read_unread, h4.read_unread, h5.read_unread, h6.read_unread,
      h7.read_unread, h8.read_unread, h9.read_unread, h10.read_unread, h11.read_unread, h12.read_unread, h13.read_unread,
      View.ld_unit_zero (S := S2048x128) zero2, View.ld_unit_zero (S := S2048x1) zero2, View.ld_unit_zero (S := S1x128) zero2]
    try rw [word_eq]
    rfl

end Cert.Point

end
-- ==== Proof.Array.lean ====
/- The three result arrays after the kernel's run. Grid point `t` works on rows `2048 t` to `2048 t + 2047`; its input blocks
   are those rows of the row arrays and the whole weight arrays, so each result array holds, row by row, the cell's values
   of the launched arguments. -/
module

public import proofs.«01_k».proof.Proof.Point

@[expose] public section

noncomputable section

namespace Cert.Array

open Cert.KernelIdeal Cert.KernelIdeal.Gen Cert.KernelIdeal.Value Idealize.ShloMosaic Idealize.ShloMosaic.TcCoe
open Idealize.ShloMosaic.Tactic
open Cert.Cell (Row Weights)

variable (m : (ℓ : Loc nD τ sig) → Buf (Elt Ideal) ℓ) (c : Dev nD) (t : Fin cfg0.N)

/-! ## The windows' places -/

/-- Row `p` of grid point `t`, as a row of the whole array. -/
def row (p : Fin 2048) : Fin 16384 :=
  ⟨t.val * 2048 + p.val, by have hN : cfg0.N = 8 := N_0; have := t.isLt; omega⟩

/-- The row windows are at block `t` of the row axis and block zero of the other. -/
theorem row_index : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_14.index t (0 : Fin 2) = t.val ∧ win0_14.index t (1 : Fin 2) = 0) ∧
    (win0_15.index t (0 : Fin 2) = t.val ∧ win0_15.index t (1 : Fin 2) = 0) ∧
    (win0_16.index t (0 : Fin 2) = t.val ∧ win0_16.index t (1 : Fin 2) = 0) :=
  (by decide +kernel : ∀ t : Fin grid0.N, _)

/-- The weight windows never move from block zero. -/
theorem whole_index : ∀ t : Fin cfg0.N,
    (win0_6.index t = fun _ => 0) ∧ (win0_7.index t = fun _ => 0) ∧ (win0_8.index t = fun _ => 0) ∧
    (win0_9.index t = fun _ => 0) ∧ (win0_10.index t = fun _ => 0) ∧ (win0_11.index t = fun _ => 0) ∧
    (win0_12.index t = fun _ => 0) ∧ (win0_13.index t = fun _ => 0) :=
  (by decide +kernel : ∀ t : Fin grid0.N, _)

/-- A place on a tiled axis. -/
theorem place_tile {i n p : ℕ} (e : i = n) : i * 2048 + 1 * p = n * 2048 + p := by omega

/-- A place on an axis of one tile. -/
theorem place_whole {i s q : ℕ} (e : i = 0) : i * s + 1 * q = q := by subst e; omega

/-- An index whose two places are `r` and `q`. -/
theorem eq_ix2 {n k : ℕ} {i : (⟨2, ![n, k]⟩ : Shape).Idx} {r : Fin n} {q : Fin k} (h0 : (i 0).val = r.val) (h1 : (i 1).val = q.val) :
    i = ix2 r q :=
  funext fun a => Fin.ext (by match a with | ⟨0, _⟩ => exact h0 | ⟨1, _⟩ => exact h1)

/-- Row `p` of each row window's block is row `row t p` of its array. -/
theorem row_emb (p : Fin 2048) :
    (∀ q, ((cfg0.win 0).blk t).view.emb (ix2 p q) = ix2 (row t p) q) ∧
    (∀ q, ((cfg0.win 1).blk t).view.emb (ix2 p q) = ix2 (row t p) q) ∧
    (∀ q, ((cfg0.win 2).blk t).view.emb (ix2 p q) = ix2 (row t p) q) ∧
    (∀ q, ((cfg0.win 3).blk t).view.emb (ix2 p q) = ix2 (row t p) q) ∧
    (∀ q, ((cfg0.win 4).blk t).view.emb (ix2 p q) = ix2 (row t p) q) ∧
    (∀ q, ((cfg0.win 5).blk t).view.emb (ix2 p q) = ix2 (row t p) q) ∧
    (∀ q, ((cfg0.win 14).blk t).view.emb (ix2 p q) = ix2 (row t p) q) ∧
    (∀ q, ((cfg0.win 15).blk t).view.emb (ix2 p q) = ix2 (row t p) q) ∧
    (∀ q, ((cfg0.win 16).blk t).view.emb (ix2 p q) = ix2 (row t p) q) := by
  obtain ⟨e0, e1, e2, e3, e4, e5, e14, e15, e16⟩ := row_index t
  exact ⟨fun _ => eq_ix2 (place_tile e0.1) (place_whole e0.2), fun _ => eq_ix2 (place_tile e1.1) (place_whole e1.2),
    fun _ => eq_ix2 (place_tile e2.1) (place_whole e2.2), fun _ => eq_ix2 (place_tile e3.1) (place_whole e3.2),
    fun _ => eq_ix2 (place_tile e4.1) (place_whole e4.2), fun _ => eq_ix2 (place_tile e5.1) (place_whole e5.2),
    fun _ => eq_ix2 (place_tile e14.1) (place_whole e14.2), fun _ => eq_ix2 (place_tile e15.1) (place_whole e15.2),
    fun _ => eq_ix2 (place_tile e16.1) (place_whole e16.2)⟩

/-! ## The weights -/

/-- The three reshaped vectors hold the columns they were reshaped from. -/
theorem reshaped (k : Fin 128) :
    V m c main_v0 (ix2 0 k) = m ((c : Thread nD τ).loc main_arg7) (ix2 k 0) ∧
    V m c main_v1 (ix2 0 k) = m ((c : Thread nD τ).loc main_arg9) (ix2 k 0) ∧
    V m c main_v2 (ix2 0 k) = m ((c : Thread nD τ).loc main_arg11) (ix2 k 0) := by
  refine ⟨?_, ?_, ?_⟩ <;>
  · show StableHlo.after hostOps0 _ (Proc.devRef .tc _) _ = _
    after_results
    pointwise

/-- The launched weights, as the cell takes them. -/
abbrev weights : Weights :=
  Weights.of (m ((c : Thread nD τ).loc main_arg6)) (m ((c : Thread nD τ).loc main_arg8)) (m ((c : Thread nD τ).loc main_arg10))
    (m ((c : Thread nD τ).loc main_arg12)) (fun k => m ((c : Thread nD τ).loc main_arg7) (ix2 k 0))
    (fun k => m ((c : Thread nD τ).loc main_arg9) (ix2 k 0)) (fun k => m ((c : Thread nD τ).loc main_arg11) (ix2 k 0))
    (m ((c : Thread nD τ).loc main_arg13))

/-- Row `r` of the launched row arrays. -/
abbrev input (r : Fin 16384) : Row :=
  Row.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- The weights of the point's blocks are the launched ones. -/
theorem weights_eq :
    Block.weights (iblk m c 6 t) (iblk m c 7 t) (iblk m c 8 t) (iblk m c 9 t) (iblk m c 10 t) (iblk m c 11 t) (iblk m c 12 t)
      (iblk m c 13 t) = weights m c := by
  obtain ⟨e6, e7, e8, e9, e10, e11, e12, e13⟩ := whole_index t
  have i6 : iblk m c 6 t = V m c main_arg6 :=
    funext fun j => congrArg (V m c main_arg6) (funext fun a => Fin.ext (place_whole (congrFun e6 a)))
  have i7 : iblk m c 7 t = V m c main_arg8 :=
    funext fun j => congrArg (V m c main_arg8) (funext fun a => Fin.ext (place_whole (congrFun e7 a)))
  have i8 : iblk m c 8 t = V m c main_arg10 :=
    funext fun j => congrArg (V m c main_arg10) (funext fun a => Fin.ext (place_whole (congrFun e8 a)))
  have i9 : iblk m c 9 t = V m c main_arg12 :=
    funext fun j => congrArg (V m c main_arg12) (funext fun a => Fin.ext (place_whole (congrFun e9 a)))
  have i10 : iblk m c 10 t = V m c main_v0 :=
    funext fun j => congrArg (V m c main_v0) (funext fun a => Fin.ext (place_whole (congrFun e10 a)))
  have i11 : iblk m c 11 t = V m c main_v1 :=
    funext fun j => congrArg (V m c main_v1) (funext fun a => Fin.ext (place_whole (congrFun e11 a)))
  have i12 : iblk m c 12 t = V m c main_v2 :=
    funext fun j => congrArg (V m c main_v2) (funext fun a => Fin.ext (place_whole (congrFun e12 a)))
  have i13 : iblk m c 13 t = V m c main_arg13 :=
    funext fun j => congrArg (V m c main_arg13) (funext fun a => Fin.ext (place_whole (congrFun e13 a)))
  rw [i6, i7, i8, i9, i10, i11, i12, i13, V_main_arg6, V_main_arg8, V_main_arg10, V_main_arg12, V_main_arg13]
  unfold Block.weights weights
  congr 1
  · exact funext fun k => (reshaped m c k).1
  · exact funext fun k => (reshaped m c k).2.1
  · exact funext fun k => (reshaped m c k).2.2

/-- Row `p` of the point's blocks is row `row t p` of the launched arrays. -/
theorem input_eq (p : Fin 2048) :
    Row.of (iblk m c 0 t) (iblk m c 1 t) (iblk m c 2 t) (iblk m c 3 t) (iblk m c 4 t) (iblk m c 5 t) p = input m c (row t p) := by
  obtain ⟨e0, e1, e2, e3, e4, e5, -⟩ := row_emb t p
  unfold input
  rw [← V_main_arg0 m c, ← V_main_arg1 m c, ← V_main_arg2 m c, ← V_main_arg3 m c, ← V_main_arg4 m c, ← V_main_arg5 m c]
  unfold Row.of
  congr 1
  · exact funext fun k => congrArg (V m c main_arg0) (e0 k)
  · exact funext fun k => congrArg (V m c main_arg1) (e1 k)
  · exact funext fun k => congrArg (V m c main_arg2) (e2 k)
  · exact funext fun k => congrArg (V m c main_arg3) (e3 k)
  · exact congrArg (V m c main_arg4) (e4 0)
  · exact congrArg (V m c main_arg5) (e5 0)

/-! ## The result arrays -/

/-- The array of new hidden states. -/
def hArr : Buf (Elt Ideal) ((c : Thread nD τ).loc main_v3_0) := fun i => Cell.hNew (weights m c) (input m c (i 0)) (i 1)

/-- The array of new cell states. -/
def cArr : Buf (Elt Ideal) ((c : Thread nD τ).loc main_v3_1) := fun i => Cell.cNew (weights m c) (input m c (i 0)) (i 1)

/-- The array of new boundary bits. -/
def zArr : Buf (Elt Ideal) ((c : Thread nD τ).loc main_v3_2) := fun i => Cell.zNew (weights m c) (input m c (i 0))

/-- Every index of a two-axis block is a pair of places. -/
theorem exists_ix2 {n k : ℕ} (j : (⟨2, ![n, k]⟩ : Shape).Idx) : ∃ (p : Fin n) (q : Fin k), j = ix2 p q :=
  ⟨j 0, j 1, eq_ix2 rfl rfl⟩

/-- What point `t` writes back to each result array is that array's block. -/
theorem flushed_eq :
    (dats m 0 c).flushed 14 t = ((cfg0.win 14).blk t).view.read (Elt Ideal) (hArr m c) ∧
    (dats m 0 c).flushed 15 t = ((cfg0.win 15).blk t).view.read (Elt Ideal) (cArr m c) ∧
    (dats m 0 c).flushed 16 t = ((cfg0.win 16).blk t).view.read (Elt Ideal) (zArr m c) := by
  refine ⟨?_, ?_, ?_⟩
  · rw [flushed14_A, (Point.out_eq ..).1]
    refine funext fun (j : S2048x128.Idx) => ?_
    obtain ⟨p, q, rfl⟩ := exists_ix2 j
    have h := Block.hBlock_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) p q
    rw [weights_eq, input_eq] at h
    exact h.trans (congrArg (hArr m c) ((row_emb t p).2.2.2.2.2.2.1 q)).symm
  · rw [flushed15_A, (Point.out_eq ..).2.1]
    refine funext fun (j : S2048x128.Idx) => ?_
    obtain ⟨p, q, rfl⟩ := exists_ix2 j
    have h := Block.cBlock_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) p q
    rw [weights_eq, input_eq] at h
    exact h.trans (congrArg (cArr m c) ((row_emb t p).2.2.2.2.2.2.2.1 q)).symm
  · rw [flushed16_A, (Point.out_eq ..).2.2]
    refine funext fun (j : S2048x1.Idx) => ?_
    obtain ⟨p, q, rfl⟩ := exists_ix2 j
    obtain rfl := Subsingleton.elim q 0
    have h := Block.zBlock_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) p
    rw [weights_eq, input_eq] at h
    exact h.trans (congrArg (zArr m c) ((row_emb t p).2.2.2.2.2.2.2.2 0)).symm

/-- The grid point whose rows hold row `r`, and the row's place in its block. -/
theorem row_cover (r : Fin 16384) : ∃ (t : Fin cfg0.N) (p : Fin 2048), row t p = r :=
  ⟨⟨r.val / 2048, by have hN : cfg0.N = 8 := N_0; omega⟩, ⟨r.val % 2048, by omega⟩, Fin.ext (by
    show r.val / 2048 * 2048 + r.val % 2048 = r.val; omega)⟩

/-- After the run each result array holds the cell's values. -/
theorem final_eq :
    (dats m 0 c).arrAt 14 cfg0.N = hArr m c ∧ (dats m 0 c).arrAt 15 cfg0.N = cArr m c
      ∧ (dats m 0 c).arrAt 16 cfg0.N = zArr m c := by
  refine ⟨(dats m 0 c).arrAt_eq_of_cover 14 _ (fun t _ => (flushed_eq m c t).1) fun (i : S16384x128.Idx) => ?_,
    (dats m 0 c).arrAt_eq_of_cover 15 _ (fun t _ => (flushed_eq m c t).2.1) fun (i : S16384x128.Idx) => ?_,
    (dats m 0 c).arrAt_eq_of_cover 16 _ (fun t _ => (flushed_eq m c t).2.2) fun (i : S16384x1.Idx) => ?_⟩ <;>
  obtain ⟨r, q, rfl⟩ := exists_ix2 i <;>
  obtain ⟨t, p, rfl⟩ := row_cover r <;>
  obtain ⟨-, -, -, -, -, -, e14, e15, e16⟩ := row_emb t p
  · exact ⟨t, flush0_14 t, e14 q ▸ ((cfg0.win 14).blk t).view.emb_mem_set (ix2 p q)⟩
  · exact ⟨t, flush0_15 t, e15 q ▸ ((cfg0.win 15).blk t).view.emb_mem_set (ix2 p q)⟩
  · exact ⟨t, flush0_16 t, e16 q ▸ ((cfg0.win 16).blk t).view.emb_mem_set (ix2 p q)⟩

end Cert.Array

end
-- ==== Proof.RefValue.lean ====
/- What the reference computes, read entry by entry: the four gates, the new cell state, the new hidden state and the new
   boundary bit of row `r` are the cell's values of that row. -/
module

public import proofs.«01_k».proof.Proof.Block
public import proofs.«01_k».proof.Proof.Gen.ReferenceIdeal.Read

@[expose] public section

noncomputable section

namespace Cert.RefValue

open Cert.ReferenceIdeal Cert.ReferenceIdeal.Read Idealize.ShloMosaic
open Cert.Cell (Row Weights)

variable (x0 x1 x2 x3 : (⟨S16384x128, .f32⟩ : BufTy).Contents (Elt Ideal)) (x4 x5 : (⟨S16384x1, .f32⟩ : BufTy).Contents (Elt Ideal))
  (x6 : (⟨S4x128x128, .f32⟩ : BufTy).Contents (Elt Ideal)) (x7 : (⟨S128x1, .f32⟩ : BufTy).Contents (Elt Ideal))
  (x8 : (⟨S4x128x128, .f32⟩ : BufTy).Contents (Elt Ideal)) (x9 : (⟨S128x1, .f32⟩ : BufTy).Contents (Elt Ideal))
  (x10 : (⟨S4x128x128, .f32⟩ : BufTy).Contents (Elt Ideal)) (x11 : (⟨S128x1, .f32⟩ : BufTy).Contents (Elt Ideal))
  (x12 : (⟨S4x128, .f32⟩ : BufTy).Contents (Elt Ideal)) (x13 : (⟨S1, .f32⟩ : BufTy).Contents (Elt Ideal))

/-- The weights read from the reference's arguments. -/
abbrev weights : Weights :=
  Weights.of x6 x8 x10 x12 (fun k => x7 (ix2 k 0)) (fun k => x9 (ix2 k 0)) (fun k => x11 (ix2 k 0)) x13

variable (r : Fin 16384) (q : Fin 128)

/-- The four pre-activations are the cell's. -/
theorem pre_apply :
    (val_main_v19 x0 x2 x3 x4 x5 x6 x8 x10 x12 (ix2 r q)
      = Cell.pre (weights x6 x7 x8 x9 x10 x11 x12 x13) (Row.of x0 x1 x2 x3 x4 x5 r) 0 q) ∧
    (val_main_v39 x0 x2 x3 x4 x5 x6 x8 x10 x12 (ix2 r q)
      = Cell.pre (weights x6 x7 x8 x9 x10 x11 x12 x13) (Row.of x0 x1 x2 x3 x4 x5 r) 1 q) ∧
    (val_main_v59 x0 x2 x3 x4 x5 x6 x8 x10 x12 (ix2 r q)
      = Cell.pre (weights x6 x7 x8 x9 x10 x11 x12 x13) (Row.of x0 x1 x2 x3 x4 x5 r) 2 q) ∧
    (val_main_v79 x0 x2 x3 x4 x5 x6 x8 x10 x12 (ix2 r q)
      = Cell.pre (weights x6 x7 x8 x9 x10 x11 x12 x13) (Row.of x0 x1 x2 x3 x4 x5 r) 3 q) := by
  refine ⟨?_, ?_, ?_, ?_⟩ <;>
  · simp only [val_main_v19, val_main_v18, val_main_v17, val_main_v16, val_main_v15, val_main_v14, val_main_v13, val_main_v12,
      val_main_v11, val_main_v10, val_main_v9, val_main_v8, val_main_v7, val_main_v6, val_main_v5, val_main_v4, val_main_v3,
      val_main_v2, val_main_v1, val_main_v0,
      val_main_v39, val_main_v38, val_main_v37, val_main_v36, val_main_v35, val_main_v34, val_main_v33, val_main_v32,
      val_main_v31, val_main_v30, val_main_v29, val_main_v28, val_main_v27, val_main_v26, val_main_v25, val_main_v24, val_main_v23,
      val_main_v22, val_main_v21, val_main_v20,
      val_main_v59, val_main_v58, val_main_v57, val_main_v56, val_main_v55, val_main_v54, val_main_v53, val_main_v52,
      val_main_v51, val_main_v50, val_main_v49, val_main_v48, val_main_v47, val_main_v46, val_main_v45, val_main_v44, val_main_v43,
      val_main_v42, val_main_v41, val_main_v40,
      val_main_v79, val_main_v78, val_main_v77, val_main_v76, val_main_v75, val_main_v74, val_main_v73, val_main_v72,
      val_main_v71, val_main_v70, val_main_v69, val_main_v68, val_main_v67, val_main_v66, val_main_v65, val_main_v64, val_main_v63,
      val_main_v62, val_main_v61, val_main_v60]
    pointwise [dot_S16384x128_S128x128_S16384x128_1_0_0_1_n_n]
    rfl

/-- The three logistic gates and the candidate. -/
theorem gates_apply :
    (val_main_v85 x0 x2 x3 x4 x5 x6 x8 x10 x12 (ix2 r q)
      = Ideal.logistic (Cell.pre (weights x6 x7 x8 x9 x10 x11 x12 x13) (Row.of x0 x1 x2 x3 x4 x5 r) 0 q)) ∧
    (val_main_v86 x0 x2 x3 x4 x5 x6 x8 x10 x12 (ix2 r q)
      = Ideal.tanh (Cell.pre (weights x6 x7 x8 x9 x10 x11 x12 x13) (Row.of x0 x1 x2 x3 x4 x5 r) 1 q)) ∧
    (val_main_v92 x0 x2 x3 x4 x5 x6 x8 x10 x12 (ix2 r q)
      = Ideal.logistic (Cell.pre (weights x6 x7 x8 x9 x10 x11 x12 x13) (Row.of x0 x1 x2 x3 x4 x5 r) 2 q)) ∧
    (val_main_v98 x0 x2 x3 x4 x5 x6 x8 x10 x12 (ix2 r q)
      = Ideal.logistic (Cell.pre (weights x6 x7 x8 x9 x10 x11 x12 x13) (Row.of x0 x1 x2 x3 x4 x5 r) 3 q)) := by
  obtain ⟨e0, e1, e2, e3⟩ := pre_apply x0 x1 x2 x3 x4 x5 x6 x7 x8 x9 x10 x11 x12 x13 r q
  refine ⟨?_, ?_, ?_, ?_⟩ <;>
  · simp only [val_main_v85, val_main_v84, val_main_v83, val_main_v82, val_main_v81, val_main_v80, val_main_v86,
      val_main_v92, val_main_v91, val_main_v90, val_main_v89, val_main_v88, val_main_v87,
      val_main_v98, val_main_v97, val_main_v96, val_main_v95, val_main_v94, val_main_v93,
      val_main_cst, val_main_cst_0, val_main_cst_1, val_main_cst_2, val_main_cst_3, val_main_cst_4]
    pointwise [e0, e1, e2, e3]
    try rfl

/-- Choosing by the conjunction of two masks is choosing by both conditions. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- Row `r`, unit `q` of the new cell state. -/
theorem cNew_apply :
    val_main_v111 x0 x1 x2 x3 x4 x5 x6 x8 x10 x12 (ix2 r q)
      = Cell.cNew (weights x6 x7 x8 x9 x10 x11 x12 x13) (Row.of x0 x1 x2 x3 x4 x5 r) q := by
  obtain ⟨e0, e1, e2, e3⟩ := gates_apply x0 x1 x2 x3 x4 x5 x6 x7 x8 x9 x10 x11 x12 x13 r q
  simp only [val_main_v111, val_main_call1_v0, val_main_v110, val_main_call0_v0, val_main_v109, val_main_v108, val_main_v107,
    val_main_v106, val_main_v105, val_main_v104, val_main_v103, val_main_cst_7, val_main_cst_6, val_main_cst_5, val_main_v102,
    val_main_v101, val_main_v100, val_main_v99]
  pointwise [select_and, e0, e1, e2, e3]
  rfl

/-- Row `r`, unit `q` of the new hidden state. -/
theorem hNew_apply :
    val_main_v124 x0 x1 x2 x3 x4 x5 x6 x8 x10 x12 (ix2 r q)
      = Cell.hNew (weights x6 x7 x8 x9 x10 x11 x12 x13) (Row.of x0 x1 x2 x3 x4 x5 r) q := by
  obtain ⟨e0, e1, e2, e3⟩ := gates_apply x0 x1 x2 x3 x4 x5 x6 x7 x8 x9 x10 x11 x12 x13 r q
  simp only [val_main_v124, val_main_call3_v0, val_main_v123, val_main_call2_v0, val_main_v122, val_main_v121, val_main_v120,
    val_main_v119, val_main_v118, val_main_v117, val_main_v116, val_main_cst_10, val_main_cst_9, val_main_cst_8, val_main_v115,
    val_main_v114, val_main_v113, val_main_v112, val_main_v102, val_main_v101, val_main_v100, val_main_v99]
  pointwise [select_and, e0, e1, e2, e3]
  rfl

/-- The pattern of two denotes two. -/
theorem ofBits_two : Ideal.ofBits .f32 0x40000000#32 = ((2 : ℝ) : EReal) := by
  simp [Ideal.ofBits, Ideal.ieee, -EReal.coe_mul]; norm_num

/-- Dividing by two is multiplying by one half. -/
theorem div_two (a : EReal) : Ideal.div a ((2 : ℝ) : EReal) = a * ((1 / 2 : ℝ) : EReal) := by
  rw [Ideal.div_coe (by norm_num : (2 : ℝ) ≠ 0)]

/-- Row `r` of the new boundary bit. -/
theorem zNew_apply :
    val_main_v154 x0 x1 x2 x3 x4 x5 x6 x7 x8 x9 x10 x11 x12 x13 (ix2 r 0)
      = Cell.zNew (weights x6 x7 x8 x9 x10 x11 x12 x13) (Row.of x0 x1 x2 x3 x4 x5 r) := by
  simp only [val_main_v154, val_main_v153, val_main_cst_20, val_main_v152, val_main_cst_19, val_main_v151, val_main_v150,
    val_main_cst_18, val_main_v149, val_main_call4_v4, val_main_call4_v3, val_main_call4_v2, val_main_call4_v1,
    val_main_call4_v0, val_main_cst_17, val_main_cst_16, val_main_v148, val_main_v147, val_main_cst_15, val_main_v146,
    val_main_v145, val_main_cst_14, val_main_v144, val_main_v143, val_main_cst_13, val_main_v142, val_main_v141, val_main_cst_12,
    val_main_v140, val_main_v139, val_main_cst_11, val_main_v138, val_main_v137, val_main_v136, val_main_v135, val_main_v134,
    val_main_v133, val_main_v132, val_main_v131, val_main_v130, val_main_v129, val_main_v128, val_main_v127, val_main_v126,
    val_main_v125, id_eq]
  pointwise [dot_S16384x128_S128x1_S16384x1_1_0_0_1_n_n, Block.ofBits_half, ofBits_two, div_two,
    hNew_apply x0 x1 x2 x3 x4 x5 x6 x7 x8 x9 x10 x11 x12 x13 r]
  rfl

end Cert.RefValue

end
-- ==== Proof.lean ====
/- The five claims. Both sides are shown to hold the same three arrays of the launched arguments: the kernel's run by the
   array module (its three result arrays are `hArr`, `cArr`, `zArr`), the reference's run by its entry-by-entry reading. -/
module

public import proofs.«01_k».proof.Defs
public import proofs.«01_k».proof.Proof.Array
public import proofs.«01_k».proof.Proof.RefValue
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.ShloMosaic.StableHlo Idealize.SL.Sem

/-- The reference ends with its arguments unchanged; it has no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run m ρ)

section Agree

variable (m : (ℓ : Loc Cert.KernelIdeal.nD Cert.KernelIdeal.τ Cert.KernelIdeal.sig) → Buf (Elt Ideal) ℓ) (c : Dev Cert.KernelIdeal.nD)

/-- The kernel's argument array `b` as launched. -/
abbrev arg (b : Ref Cert.KernelIdeal.sig .tc) := m ((c.tc : Thread Cert.KernelIdeal.nD Cert.KernelIdeal.τ).loc b)

open Cert.KernelIdeal Cert.ReferenceIdeal.Read in
/-- The reference's three results, as functions of arguments equal to the kernel's, are the kernel's three result
    arrays. -/
theorem agree {x0 x1 x2 x3 : Vec Ideal S16384x128 .f32} {x4 x5 : Vec Ideal S16384x1 .f32} {x6 x8 x10 : Vec Ideal S4x128x128 .f32}
    {x7 x9 x11 : Vec Ideal S128x1 .f32} {x12 : Vec Ideal S4x128 .f32} {x13 : Vec Ideal S1 .f32}
    (e0 : x0 = arg m c main_arg0) (e1 : x1 = arg m c main_arg1) (e2 : x2 = arg m c main_arg2)
    (e3 : x3 = arg m c main_arg3) (e4 : x4 = arg m c main_arg4) (e5 : x5 = arg m c main_arg5)
    (e6 : x6 = arg m c main_arg6) (e7 : x7 = arg m c main_arg7) (e8 : x8 = arg m c main_arg8)
    (e9 : x9 = arg m c main_arg9) (e10 : x10 = arg m c main_arg10) (e11 : x11 = arg m c main_arg11)
    (e12 : x12 = arg m c main_arg12) (e13 : x13 = arg m c main_arg13) :
    val_main_v124 x0 x1 x2 x3 x4 x5 x6 x8 x10 x12 = Cert.Array.hArr m c ∧
    val_main_v111 x0 x1 x2 x3 x4 x5 x6 x8 x10 x12 = Cert.Array.cArr m c ∧
    val_main_v154 x0 x1 x2 x3 x4 x5 x6 x7 x8 x9 x10 x11 x12 x13 = Cert.Array.zArr m c := by
  subst e0 e1 e2 e3 e4 e5 e6 e7 e8 e9 e10 e11 e12 e13
  refine ⟨funext fun i => ?_, funext fun i => ?_, funext fun i => ?_⟩ <;> obtain ⟨r, q, rfl⟩ := Cert.Array.exists_ix2 i
  · exact Cert.RefValue.hNew_apply _ _ _ _ _ _ _ (arg m c main_arg7) _ (arg m c main_arg9) _ (arg m c main_arg11) _
      (arg m c main_arg13) r q
  · exact Cert.RefValue.cNew_apply _ _ _ _ _ _ _ (arg m c main_arg7) _ (arg m c main_arg9) _ (arg m c main_arg11) _
      (arg m c main_arg13) r q
  · obtain rfl := Subsingleton.elim q 0
    exact Cert.RefValue.zNew_apply _ _ _ _ _ _ _ _ _ _ _ _ _ _ r

end Agree

/-- The kernel and the reference end with equal results. -/
theorem algebraic : Cert.algebraic_KernelIdeal_ReferenceIdeal := by
  intro m g m' g' _ hargs
  refine ⟨fun c => Cert.Array.hArr m c, fun c => Cert.Array.cArr m c, fun c => Cert.Array.zArr m c,
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · obtain ⟨eh, ec, ez⟩ := Cert.Array.final_eq m c
    exact ⟨(h c).1.trans eh, (h c).2.1.trans ec, (h c).2.2.1.trans ez, (h c).2.2.2⟩
  · obtain ⟨a0, a1, a2, a3, a4, a5, a6, a7, a8, a9, a10, a11, a12, a13⟩ := hargs c
    obtain ⟨eh, ec, ez⟩ := agree m c a0 a1 a2 a3 a4 a5 a6 a7 a8 a9 a10 a11 a12 a13
    exact ⟨((h c).1.trans (Cert.ReferenceIdeal.Read.val_main_v124_eq (launchContents m' c))).trans eh,
      ((h c).2.1.trans (Cert.ReferenceIdeal.Read.val_main_v111_eq (launchContents m' c))).trans ec,
      ((h c).2.2.1.trans (Cert.ReferenceIdeal.Read.val_main_v154_eq (launchContents m' c))).trans ez, (h c).2.2.2⟩

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
